-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelPoly (m : (ℓ : Loc Cert.KernelPoly.nD Cert.KernelPoly.τ Cert.KernelPoly.sig) → Buf (Elt Bits) ℓ) : Prop :=
  True

def Pre_KernelPolyIdeal (m : (ℓ : Loc Cert.KernelPolyIdeal.nD Cert.KernelPolyIdeal.τ Cert.KernelPolyIdeal.sig) → Buf (Elt Ideal) ℓ) : Prop :=
  True

def Pre_KernelPolyIdeal_table_in_unit [hPre_table_in_unit : Cert.Pre_table_in_unit.Facts] (m : (ℓ : Loc Cert.KernelPolyIdeal.nD Cert.KernelPolyIdeal.τ Cert.KernelPolyIdeal.sig) → Buf (Elt Ideal) ℓ) : Prop :=
  ∀ c : Dev Cert.KernelPolyIdeal.nD,
    (Cert.Pre_table_in_unit.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelPoly [hKernelPoly : Cert.KernelPoly.Facts] : Prop :=
  ∀ (m : (ℓ : Loc Cert.KernelPoly.nD Cert.KernelPoly.τ Cert.KernelPoly.sig) → Buf (Elt Bits) ℓ) (g : Dev Cert.KernelPoly.nD → PrngReg), Pre_KernelPoly m →
    θ_run (Cert.KernelPoly.defs (F := Bits)) (onTc (τ := Cert.KernelPoly.τ) (Cert.KernelPoly.main (F := Bits))) ⟨m, fun _ => 0, g⟩ (fun r => (∀ c : Dev Cert.KernelPoly.nD,
      r.2.mem ((c.tc : Thread Cert.KernelPoly.nD Cert.KernelPoly.τ).loc Cert.KernelPoly.main_arg0) = m ((c.tc : Thread Cert.KernelPoly.nD Cert.KernelPoly.τ).loc Cert.KernelPoly.main_arg0)
      ∧ r.2.mem ((c.tc : Thread Cert.KernelPoly.nD Cert.KernelPoly.τ).loc Cert.KernelPoly.main_arg1) = m ((c.tc : Thread Cert.KernelPoly.nD Cert.KernelPoly.τ).loc Cert.KernelPoly.main_arg1))
      ∧ r.2.sem = fun _ => 0)

def quiescent_KernelPolyIdeal [hKernelPolyIdeal : Cert.KernelPolyIdeal.Facts] : Prop :=
  ∀ (m : (ℓ : Loc Cert.KernelPolyIdeal.nD Cert.KernelPolyIdeal.τ Cert.KernelPolyIdeal.sig) → Buf (Elt Ideal) ℓ) (g : Dev Cert.KernelPolyIdeal.nD → PrngReg), Pre_KernelPolyIdeal m →
    θ_run (Cert.KernelPolyIdeal.defs (F := Ideal)) (onTc (τ := Cert.KernelPolyIdeal.τ) (Cert.KernelPolyIdeal.main (F := Ideal))) ⟨m, fun _ => 0, g⟩ (fun r => (∀ c : Dev Cert.KernelPolyIdeal.nD,
      r.2.mem ((c.tc : Thread Cert.KernelPolyIdeal.nD Cert.KernelPolyIdeal.τ).loc Cert.KernelPolyIdeal.main_arg0) = m ((c.tc : Thread Cert.KernelPolyIdeal.nD Cert.KernelPolyIdeal.τ).loc Cert.KernelPolyIdeal.main_arg0)
      ∧ r.2.mem ((c.tc : Thread Cert.KernelPolyIdeal.nD Cert.KernelPolyIdeal.τ).loc Cert.KernelPolyIdeal.main_arg1) = m ((c.tc : Thread Cert.KernelPolyIdeal.nD Cert.KernelPolyIdeal.τ).loc Cert.KernelPolyIdeal.main_arg1))
      ∧ r.2.sem = fun _ => 0)

def quiescent_KernelPolyIdeal_pre_table_in_unit [hKernelPolyIdeal : Cert.KernelPolyIdeal.Facts] [hPre_table_in_unit : Cert.Pre_table_in_unit.Facts] : Prop :=
  ∀ (m : (ℓ : Loc Cert.KernelPolyIdeal.nD Cert.KernelPolyIdeal.τ Cert.KernelPolyIdeal.sig) → Buf (Elt Ideal) ℓ) (g : Dev Cert.KernelPolyIdeal.nD → PrngReg), Pre_KernelPolyIdeal_table_in_unit m →
    θ_run (Cert.KernelPolyIdeal.defs (F := Ideal)) (onTc (τ := Cert.KernelPolyIdeal.τ) (Cert.KernelPolyIdeal.main (F := Ideal))) ⟨m, fun _ => 0, g⟩ (fun r => (∀ c : Dev Cert.KernelPolyIdeal.nD,
      r.2.mem ((c.tc : Thread Cert.KernelPolyIdeal.nD Cert.KernelPolyIdeal.τ).loc Cert.KernelPolyIdeal.main_arg0) = m ((c.tc : Thread Cert.KernelPolyIdeal.nD Cert.KernelPolyIdeal.τ).loc Cert.KernelPolyIdeal.main_arg0)
      ∧ r.2.mem ((c.tc : Thread Cert.KernelPolyIdeal.nD Cert.KernelPolyIdeal.τ).loc Cert.KernelPolyIdeal.main_arg1) = m ((c.tc : Thread Cert.KernelPolyIdeal.nD Cert.KernelPolyIdeal.τ).loc Cert.KernelPolyIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelPoly_KernelPolyIdeal : Prop :=
  True

def holds_KernelPolyIdeal_near_reference_pre_table_in_unit [hKernelPolyIdeal : Cert.KernelPolyIdeal.Facts] [hPre_table_in_unit : Cert.Pre_table_in_unit.Facts] [hPost_near_reference : Cert.Post_near_reference.Facts] : Prop :=
  ∀ (m : (ℓ : Loc Cert.KernelPolyIdeal.nD Cert.KernelPolyIdeal.τ Cert.KernelPolyIdeal.sig) → Buf (Elt Ideal) ℓ) (g : Dev Cert.KernelPolyIdeal.nD → PrngReg), Pre_KernelPolyIdeal_table_in_unit m →
    θ_run (Cert.KernelPolyIdeal.defs (F := Ideal)) (onTc (τ := Cert.KernelPolyIdeal.τ) (Cert.KernelPolyIdeal.main (F := Ideal))) ⟨m, fun _ => 0, g⟩ (fun r => ∀ c : Dev Cert.KernelPolyIdeal.nD,
      r.2.mem ((c.tc : Thread Cert.KernelPolyIdeal.nD Cert.KernelPolyIdeal.τ).loc Cert.KernelPolyIdeal.main_arg0) = m ((c.tc : Thread Cert.KernelPolyIdeal.nD Cert.KernelPolyIdeal.τ).loc Cert.KernelPolyIdeal.main_arg0)
      ∧ r.2.mem ((c.tc : Thread Cert.KernelPolyIdeal.nD Cert.KernelPolyIdeal.τ).loc Cert.KernelPolyIdeal.main_arg1) = m ((c.tc : Thread Cert.KernelPolyIdeal.nD Cert.KernelPolyIdeal.τ).loc Cert.KernelPolyIdeal.main_arg1)
      ∧ (Cert.Post_near_reference.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1)) (r.2.mem ((c.tc : Thread Cert.KernelPolyIdeal.nD Cert.KernelPolyIdeal.τ).loc Cert.KernelPolyIdeal.main_v0))) = (fun _ => 1#1))

def Claim : Prop :=
  ∃ (hKernel : Cert.Kernel.Facts) (hKernelIdeal : Cert.KernelIdeal.Facts) (hReferenceIdeal : Cert.ReferenceIdeal.Facts) (hKernelPoly : Cert.KernelPoly.Facts) (hKernelPolyIdeal : Cert.KernelPolyIdeal.Facts) (hPre_table_in_unit : Cert.Pre_table_in_unit.Facts) (hPost_near_reference : Cert.Post_near_reference.Facts),
    quiescent_Kernel (hKernel := hKernel)
    ∧ quiescent_KernelIdeal (hKernelIdeal := hKernelIdeal)
    ∧ quiescent_ReferenceIdeal (hReferenceIdeal := hReferenceIdeal)
    ∧ quiescent_KernelPoly (hKernelPoly := hKernelPoly)
    ∧ quiescent_KernelPolyIdeal (hKernelPolyIdeal := hKernelPolyIdeal)
    ∧ quiescent_KernelPolyIdeal_pre_table_in_unit (hKernelPolyIdeal := hKernelPolyIdeal) (hPre_table_in_unit := hPre_table_in_unit)
    ∧ preserves_Kernel_KernelIdeal
    ∧ algebraic_KernelIdeal_ReferenceIdeal (hKernelIdeal := hKernelIdeal) (hReferenceIdeal := hReferenceIdeal)
    ∧ preserves_KernelPoly_KernelPolyIdeal
    ∧ holds_KernelPolyIdeal_near_reference_pre_table_in_unit (hKernelPolyIdeal := hKernelPolyIdeal) (hPre_table_in_unit := hPre_table_in_unit) (hPost_near_reference := hPost_near_reference)
-- ==== Post_near_reference.lean ====
abbrev S4x8192 : Shape := ⟨2, ![4, 8192]⟩
abbrev S8192x1024 : Shape := ⟨2, ![8192, 1024]⟩
abbrev S4x8192x2048 : Shape := ⟨3, ![4, 8192, 2048]⟩
abbrev S8191x1024 : Shape := ⟨2, ![8191, 1024]⟩
abbrev S1x1024 : Shape := ⟨2, ![1, 1024]⟩
abbrev S8192x2048 : Shape := ⟨2, ![8192, 2048]⟩
abbrev S_ : Shape := ⟨0, ![]⟩

class Facts : Prop where
  slices_S8192x1024_S8191x1024_1_0 : S8192x1024.Slices ![1, 0] S8191x1024
  slices_S8192x1024_S1x1024_0_0 : S8192x1024.Slices ![0, 0] S1x1024
  concatenates_S8191x1024_S1x1024_S8192x1024_d0 : Shape.Concatenates [S8191x1024, S1x1024] S8192x1024 0
  concatenates_S8192x1024_S8192x1024_S8192x2048_d1 : Shape.Concatenates [S8192x1024, S8192x1024] S8192x2048 1
  bcast_S8192x2048_S4x8192x2048_1_2 : S8192x2048.BroadcastsInDim S4x8192x2048 (![1, 2] : Fin 2 → Fin S4x8192x2048.rank)
  bcast_S_S4x8192x2048 : S_.BroadcastsInDim S4x8192x2048 (![] : Fin 0 → Fin S4x8192x2048.rank)

variable [Facts]

def fn {F : FTy → Type} [FloatOps F] (main_arg0 : IVec S4x8192 32) (main_arg1 : FVec F S8192x1024 .f32) (main_arg2 : FVec F S4x8192x2048 .f32) : IVec S4x8192x2048 1 :=
  let main_v0 : FVec F S8191x1024 .f32 := (extractStridedSlice S8191x1024 ![1, 0] · slices_S8192x1024_S8191x1024_1_0) main_arg1
  let main_v1 : FVec F S1x1024 .f32 := (extractStridedSlice S1x1024 ![0, 0] · slices_S8192x1024_S1x1024_0_0) main_arg1
  let main_v2 : FVec F S8192x1024 .f32 := (fun a b => concatenate S8192x1024 0 [⟨S8191x1024, a⟩, ⟨S1x1024, b⟩] concatenates_S8191x1024_S1x1024_S8192x1024_d0) main_v0 main_v1
  let main_v3 : FVec F S8192x1024 .f32 := Host.sin main_arg1
  let main_v4 : FVec F S8192x1024 .f32 := Host.cos main_v2
  let main_v5 : FVec F S8192x2048 .f32 := (fun a b => concatenate S8192x2048 1 [⟨S8192x1024, a⟩, ⟨S8192x1024, b⟩] concatenates_S8192x1024_S8192x1024_S8192x2048_d1) main_v3 main_v4
  let main_v6 : FVec F S4x8192x2048 .f32 := broadcastInDim S4x8192x2048 ![1, 2] bcast_S8192x2048_S4x8192x2048_1_2 main_v5
  let main_v7 : FVec F S4x8192x2048 .f32 := subf main_arg2 main_v6
  let main_v8 : FVec F S4x8192x2048 .f32 := Host.absf main_v7
  let main_cst : FVec F S_ .f32 := constant S_ .f32 0x3649539C#32
  let main_v9 : FVec F S4x8192x2048 .f32 := broadcastInDim S4x8192x2048 ![] bcast_S_S4x8192x2048 main_cst
  let main_v10 : IVec S4x8192x2048 1 := cmpf .ole main_v8 main_v9
  main_v10
-- ==== Pre_table_in_unit.lean ====
abbrev S4x8192 : Shape := ⟨2, ![4, 8192]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : IVec S4x8192 32) (main_arg1 : FVec F S8192x1024 .f32) : IVec S8192x1024 1 :=
  let main_v0 : FVec F S8192x1024 .f32 := Host.absf main_arg1
  let main_cst : FVec F S_ .f32 := constant S_ .f32 0x3F800000#32
  let main_v1 : FVec F S8192x1024 .f32 := broadcastInDim S8192x1024 ![] bcast_S_S8192x1024 main_cst
  let main_v2 : IVec S8192x1024 1 := cmpf .ole main_v0 main_v1
  main_v2
-- ==== Kernel.lean ====
abbrev S4x8192 : Shape := ⟨2, ![4, 8192]⟩
abbrev S8192x1024 : Shape := ⟨2, ![8192, 1024]⟩
abbrev S4x8192x2048 : Shape := ⟨3, ![4, 8192, 2048]⟩
abbrev S512x1024 : Shape := ⟨2, ![512, 1024]⟩
abbrev S8x1024 : Shape := ⟨2, ![8, 1024]⟩
abbrev S4x512x2048 : Shape := ⟨3, ![4, 512, 2048]⟩
abbrev S511x1024 : Shape := ⟨2, ![511, 1024]⟩
abbrev S1x1024 : Shape := ⟨2, ![1, 1024]⟩
abbrev S512x2048 : Shape := ⟨2, ![512, 2048]⟩
abbrev S1x512x2048 : Shape := ⟨3, ![1, 512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S4x8192x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x512x2048, .f32⟩
  | .local _ .vmem, ⟨5, _⟩ => ⟨S4x512x2048, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let c0_i32 : BitVec 32 := 0#32
  let v1 : BitVec 1 := Scalar.cmpi .eq c16_i32 c0_i32
  let c1_i32_0 : BitVec 32 := 1#32
  let v2 : BitVec 32 := Scalar.select v1 c1_i32_0 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let c0_i32_4 : BitVec 32 := 0#32
  let c0_i32_5 : BitVec 32 := 0#32
  ![v11.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192 : Shape := ⟨2, ![4, 8192]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩
abbrev S8191x1024 : Shape := ⟨2, ![8191, 1024]⟩
abbrev S1x1024 : Shape := ⟨2, ![1, 1024]⟩
abbrev S1x8192x1024 : Shape := ⟨3, ![1, 8192, 1024]⟩
abbrev S4x8192x2048 : Shape := ⟨3, ![4, 8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S8191x1024, .f32⟩
  | .hbm, ⟨29, _⟩ => ⟨S1x1024, .f32⟩
  | .hbm, ⟨30, _⟩ => ⟨S8192x1024, .f32⟩
  | .hbm, ⟨31, _⟩ => ⟨S4x8192x1024, .f32⟩
  | .hbm, ⟨32, _⟩ => ⟨S8192x1024, .f32⟩
  | .hbm, ⟨33, _⟩ => ⟨S1x8192x1024, .f32⟩
  | .hbm, ⟨34, _⟩ => ⟨S4x8192x1024, .f32⟩
  | .hbm, ⟨35, _⟩ => ⟨S4x8192x2048, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_call1_v0 : Ref sig .tc := ⟨.hbm, 28, rfl⟩
abbrev main_call1_v1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]
-- ==== KernelPoly.lean ====
abbrev S4x8192 : Shape := ⟨2, ![4, 8192]⟩
abbrev S8192x1024 : Shape := ⟨2, ![8192, 1024]⟩
abbrev S4x8192x2048 : Shape := ⟨3, ![4, 8192, 2048]⟩
abbrev S512x1024 : Shape := ⟨2, ![512, 1024]⟩
abbrev S8x1024 : Shape := ⟨2, ![8, 1024]⟩
abbrev S4x512x2048 : Shape := ⟨3, ![4, 512, 2048]⟩
abbrev S511x1024 : Shape := ⟨2, ![511, 1024]⟩
abbrev S1x1024 : Shape := ⟨2, ![1, 1024]⟩
abbrev S512x2048 : Shape := ⟨2, ![512, 2048]⟩
abbrev S1x512x2048 : Shape := ⟨3, ![1, 512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S4x8192x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x512x2048, .f32⟩
  | .local _ .vmem, ⟨5, _⟩ => ⟨S4x512x2048, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let c0_i32 : BitVec 32 := 0#32
  let v1 : BitVec 1 := Scalar.cmpi .eq c16_i32 c0_i32
  let c1_i32_0 : BitVec 32 := 1#32
  let v2 : BitVec 32 := Scalar.select v1 c1_i32_0 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let c0_i32_4 : BitVec 32 := 0#32
  let c0_i32_5 : BitVec 32 := 0#32
  ![v11.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proof.Tile.lean ====
/- The rotary table and one tile of it, as functions of the table alone: no program is mentioned here. The two halves of
   a row apply a function `f` (the sine, or a polynomial near it) and a function `g` (the cosine, or a polynomial near it). -/
module

public import Idealize.ShloMosaic.Lib.StableHlo
public import Idealize.ShloMosaic.PureOps
public import Idealize.ShloMosaic.Lib.ValueIdxCore
public import Idealize.ShloMosaic.Lib.Pipeline.Value

@[expose] public section

set_option maxRecDepth 16384

noncomputable section

open Idealize.ShloMosaic Idealize.ShloMosaic.ValueIdx

namespace Cert.Rope

abbrev STable : Shape := ⟨2, ![8192, 1024]⟩
abbrev SOut : Shape := ⟨3, ![4, 8192, 2048]⟩
abbrev SRows : Shape := ⟨2, ![512, 1024]⟩
abbrev SNext : Shape := ⟨2, ![8, 1024]⟩
abbrev STile : Shape := ⟨3, ![4, 512, 2048]⟩

variable {α β : Type}

/-- The row after row `r` of the 8192 rows, the first row coming after the last. -/
def succRow (r : Fin 8192) : Fin 8192 := ⟨(r.val + 1) % 8192, Nat.mod_lt _ (by decide)⟩

/-- The rotary embedding of a table, whatever the batch: lane `l < 1024` of row `r` is `f` of the table at row `r`, lane
    `1024 + l` is `g` of the table at the row after `r`. -/
def embed (f g : α → β) (T : STable.Idx → α) (i : SOut.Idx) : β :=
  if h : (i 2).val < 1024 then f (T (ix2 (i 1) ⟨(i 2).val, h⟩))
  else g (T (ix2 (succRow (i 1)) ⟨(i 2).val - 1024, by have h2 : (i 2).val < 2048 := (i 2).isLt; omega⟩))

/-- In the first 1024 lanes the embedding is `f` of the table at the same row and lane. -/
theorem embed_left (f g : α → β) (T : STable.Idx → α) (i : SOut.Idx) (k : STable.Idx) (h0 : (k 0).val = (i 1).val)
    (h1 : (k 1).val = (i 2).val) : embed f g T i = f (T k) := by
  have hk : (k 1).val < 1024 := (k 1).isLt
  unfold embed
  rw [dif_pos (by omega)]
  exact congrArg (fun z => f (T z)) (Shape.idx_ext₂ h0.symm h1.symm)

/-- In the last 1024 lanes it is `g` of the table at the row after, 1024 lanes back. -/
theorem embed_right (f g : α → β) (T : STable.Idx → α) (i : SOut.Idx) (k : STable.Idx)
    (h0 : (k 0).val = ((i 1).val + 1) % 8192) (h1 : (k 1).val + 1024 = (i 2).val) : embed f g T i = g (T k) := by
  unfold embed
  rw [dif_neg (by omega)]
  exact congrArg (fun z => g (T z)) (Shape.idx_ext₂ h0.symm (show (i 2).val - 1024 = (k 1).val by omega))

/-- Applying other functions that agree with `f` and `g` at every entry of the table changes nothing. -/
theorem embed_congr {f f' g g' : α → β} (T : STable.Idx → α) (hf : ∀ k, f (T k) = f' (T k)) (hg : ∀ k, g (T k) = g' (T k)) :
    embed f g T = embed f' g' T := by
  funext i
  unfold embed
  split
  · exact hf _
  · exact hg _

/-- A tile's 512 rows `rows`, moved up by one row, row 511 taken from the first of the rows `next`. -/
def shiftUp (rows : SRows.Idx → α) (next : SNext.Idx → α) (j : SRows.Idx) : α :=
  if h : (j 0).val < 511 then rows (ix2 ⟨(j 0).val + 1, by omega⟩ (j 1)) else next (ix2 ⟨0, by decide⟩ (j 1))

/-- The shifted rows as they are computed: rows 1 to 511 sliced off, the first of the following rows sliced off, the
    second set under the first. -/
theorem shiftUp_eq (rows : SRows.Idx → α) (next : SNext.Idx → α)
    (hs : SRows.Slices ![1, 0] ⟨2, ![511, 1024]⟩) (hn : SNext.Slices ![0, 0] ⟨2, ![1, 1024]⟩)
    (hc : Shape.Concatenates [(⟨2, ![511, 1024]⟩ : Shape), ⟨2, ![1, 1024]⟩] SRows 0) :
    concatenate SRows 0 [⟨⟨2, ![511, 1024]⟩, extractStridedSlice _ ![1, 0] rows hs⟩,
      ⟨⟨2, ![1, 1024]⟩, extractStridedSlice _ ![0, 0] next hn⟩] hc = shiftUp rows next := by
  funext j
  have hj : (j 0).val < 512 := (j 0).isLt
  unfold shiftUp
  split
  next h =>
    rw [concatenate_pair_apply_left 0 _ _ hc j rfl (ix2 ⟨(j 0).val, h⟩ (j 1))
      (fun a => match a with | ⟨0, _⟩ => rfl | ⟨1, _⟩ => rfl)]
    exact extractStridedSlice_apply ![1, 0] rows hs _ _ (fun a => match a with
      | ⟨0, _⟩ => by show (j 0).val + 1 = 1 + (j 0).val; omega
      | ⟨1, _⟩ => by show (j 1).val = 0 + (j 1).val; omega)
  next h =>
    rw [concatenate_pair_apply_right 0 _ _ hc j rfl rfl (ix2 ⟨0, by decide⟩ (j 1))
      (fun a ha => match a, ha with | ⟨0, _⟩, ha => absurd rfl ha | ⟨1, _⟩, _ => rfl)
      (by show 0 + 511 = (j 0).val; omega)]
    exact extractStridedSlice_apply ![0, 0] next hn _ _ (fun a => match a with
      | ⟨0, _⟩ => by show 0 = 0 + 0; rfl
      | ⟨1, _⟩ => by show (j 1).val = 0 + (j 1).val; omega)

/-- One tile from its two halves: the halves side by side, a unit axis put before them, repeated over the batch. Lane
    `l < 1024` of row `r` is the left half's, lane `1024 + l` the right half's. -/
theorem sideBySide_apply (a b : SRows.Idx → β)
    (hc : Shape.Concatenates [SRows, SRows] (⟨2, ![512, 2048]⟩ : Shape) 1)
    (h1 : (⟨2, ![512, 2048]⟩ : Shape).ShapeCasts ⟨3, ![1, 512, 2048]⟩)
    (h2 : (⟨3, ![1, 512, 2048]⟩ : Shape).ShapeCasts ⟨3, ![1, 512, 2048]⟩)
    (hb : (⟨3, ![1, 512, 2048]⟩ : Shape).Broadcasts STile) (j : STile.Idx) :
    broadcastTo STile (shapeCast ⟨3, ![1, 512, 2048]⟩ (shapeCast ⟨3, ![1, 512, 2048]⟩
        (concatenate ⟨2, ![512, 2048]⟩ 1 [⟨SRows, a⟩, ⟨SRows, b⟩] hc) h1) h2) hb j
      = if h : (j 2).val < 1024 then a (ix2 (j 1) ⟨(j 2).val, h⟩)
        else b (ix2 (j 1) ⟨(j 2).val - 1024, by have h2 : (j 2).val < 2048 := (j 2).isLt; omega⟩) := by
  rw [shapeCast_self, broadcastTo_apply _ hb j (ix3 ⟨0, by decide⟩ (j 1) (j 2)) (fun a => match a with
    | ⟨0, _⟩ => by show 0 = if (1 : Nat) = 1 then 0 else (j 0).val; rw [if_pos rfl]
    | ⟨1, _⟩ => by show (j 1).val = if (512 : Nat) = 1 then 0 else (j 1).val; rw [if_neg (by decide)]
    | ⟨2, _⟩ => by show (j 2).val = if (2048 : Nat) = 1 then 0 else (j 2).val; rw [if_neg (by decide)])]
  refine (shapeCast_addUnit_apply (n := 2) ![512, 2048] _ h1 _).trans ?_
  have hj : (j 2).val < 2048 := (j 2).isLt
  split
  next h =>
    exact concatenate_pair_apply_left 1 a b hc _ rfl (ix2 (j 1) ⟨(j 2).val, h⟩)
      (fun a => match a with | ⟨0, _⟩ => rfl | ⟨1, _⟩ => rfl)
  next h =>
    exact concatenate_pair_apply_right 1 a b hc _ rfl rfl (ix2 (j 1) ⟨(j 2).val - 1024, by omega⟩)
      (fun a ha => match a, ha with | ⟨0, _⟩, _ => rfl | ⟨1, _⟩, ha => absurd rfl ha)
      (by show (j 2).val - 1024 + 1024 = (j 2).val; omega)

/-- A tile of the embedding. When `rows` are the table's rows from `512 t` on and the first row of `next` is the table's
    row after them (the first row after the last tile), the tile built from `f` of the rows and `g` of the shifted rows
    is, at the array index `i` that its index `j` stands for, the embedding of the table. -/
theorem tile_apply (f g : α → β) (T : STable.Idx → α) (rows : SRows.Idx → α) (next : SNext.Idx → α) (t : Nat) (ht : t < 16)
    (hrows : ∀ (k : SRows.Idx) (q : STable.Idx), (q 0).val = t * 512 + (k 0).val → (q 1).val = (k 1).val → rows k = T q)
    (hnext : ∀ (k : SNext.Idx) (q : STable.Idx), (k 0).val = 0 → (q 0).val = ((t + 1) % 16) * 512 → (q 1).val = (k 1).val →
      next k = T q)
    (hc : Shape.Concatenates [SRows, SRows] (⟨2, ![512, 2048]⟩ : Shape) 1)
    (h1 : (⟨2, ![512, 2048]⟩ : Shape).ShapeCasts ⟨3, ![1, 512, 2048]⟩)
    (h2 : (⟨3, ![1, 512, 2048]⟩ : Shape).ShapeCasts ⟨3, ![1, 512, 2048]⟩)
    (hb : (⟨3, ![1, 512, 2048]⟩ : Shape).Broadcasts STile) (j : STile.Idx) (i : SOut.Idx)
    (hi1 : (i 1).val = t * 512 + (j 1).val) (hi2 : (i 2).val = (j 2).val) :
    broadcastTo STile (shapeCast ⟨3, ![1, 512, 2048]⟩ (shapeCast ⟨3, ![1, 512, 2048]⟩
        (concatenate ⟨2, ![512, 2048]⟩ 1 [⟨SRows, fun k => f (rows k)⟩, ⟨SRows, fun k => g (shiftUp rows next k)⟩] hc) h1) h2) hb j
      = embed f g T i := by
  rw [sideBySide_apply]
  have hj1 : (j 1).val < 512 := (j 1).isLt
  have hj2 : (j 2).val < 2048 := (j 2).isLt
  have hi : (i 1).val < 8192 := (i 1).isLt
  split
  next h =>
    rw [embed_left f g T i (ix2 (i 1) ⟨(j 2).val, h⟩) rfl hi2.symm]
    exact congrArg f (hrows _ _ hi1 rfl)
  next h =>
    rw [embed_right f g T i (ix2 (succRow (i 1)) ⟨(j 2).val - 1024, by omega⟩) rfl
      (by show (j 2).val - 1024 + 1024 = (i 2).val; omega)]
    refine congrArg g ?_
    unfold shiftUp
    split
    next h' =>
      refine hrows _ _ ?_ rfl
      have h' : (j 1).val < 511 := h'
      show ((i 1).val + 1) % 8192 = t * 512 + ((j 1).val + 1)
      omega
    next h' =>
      refine hnext _ _ rfl ?_ rfl
      have h' : ¬ (j 1).val < 511 := h'
      show ((i 1).val + 1) % 8192 = ((t + 1) % 16) * 512
      omega

end Cert.Rope

end
-- ==== Proof.KernelValue.lean ====
/- The kernel's result array: the sine of the table beside the cosine of the table's rows moved up by one, for any float values. -/
module

public import proofs.«01_k».proof.Defs
public import proofs.«01_k».proof.Proof.Gen.KernelIdeal.Value
public import proofs.«01_k».proof.Proof.Tile

@[expose] public section

set_option maxRecDepth 16384

noncomputable section

open Idealize.ShloMosaic Idealize.ShloMosaic.TcCoe Idealize.SL.Sem
open Idealize.ShloMosaic.Pipeline (Dat)

namespace Cert.KernelIdeal.RopeValue

open Cert.KernelIdeal Cert.KernelIdeal.Gen

variable {F : FTy → Type} [FloatOps F]
variable (m : (ℓ : Loc nD τ sig) → Buf (Elt F) ℓ) (ρ : Dev nD → PrngReg)

/-- The table, as device `c` is launched with it. -/
abbrev table (c : Dev nD) : S8192x1024.Idx → F .f32 := m ((c : Thread nD τ).loc main_arg1)

/-- What the result array is shown to hold: the embedding of the table. -/
abbrev val (c : Dev nD) : Buf (Elt F) ((c : Thread nD τ).loc main_v0) :=
  Cert.Rope.embed (FloatOps.sin) (FloatOps.cos) (table m c)

/-- The body's result for the blocks `rows` and `next`: its two halves, the second over the shifted rows, side by side. -/
theorem pay_eq (rows : Vec F S512x1024 .f32) (next : Vec F S8x1024 .f32) :
    k0_pay1 rows next = broadcastTo S4x512x2048 (shapeCast S1x512x2048 (shapeCast S1x512x2048
        (concatenate S512x2048 1 [⟨S512x1024, fun k => FloatOps.sin (rows k)⟩,
          ⟨S512x1024, fun k => FloatOps.cos (Cert.Rope.shiftUp rows next k)⟩] concatenates_S512x1024_S512x1024_S512x2048_d1)
        shapeCasts_S512x2048_S1x512x2048) shapeCasts_S1x512x2048_S1x512x2048) broadcasts_S1x512x2048_S4x512x2048 := by
  rw [← Cert.Rope.shiftUp_eq rows next slices_S512x1024_o1_0_S511x1024 slices_S8x1024_o0_0_S1x1024
    concatenates_S511x1024_S1x1024_S512x1024_d0]
  rfl

/-- Where the three windows' blocks lie at point `t`: the rows from `512 t` on, the eight rows that start the tile after,
    and the result's rows from `512 t` on. -/
theorem idx_facts : ∀ t : Fin cfg0.N,
    (win0_0.index t 0 * win0_0.size 0 = t.val * 512 ∧ win0_0.index t 1 * win0_0.size 1 = 0)
    ∧ (win0_1.index t 0 * win0_1.size 0 = ((t.val + 1) % 16) * 512 ∧ win0_1.index t 1 * win0_1.size 1 = 0)
    ∧ (win0_2.index t 0 * win0_2.size 0 = 0 ∧ win0_2.index t 1 * win0_2.size 1 = t.val * 512
      ∧ win0_2.index t 2 * win0_2.size 2 = 0)
    ∧ (win0_2.xsize (grid0.coords t) 0 = 4 ∧ win0_2.xsize (grid0.coords t) 1 = 512
      ∧ win0_2.xsize (grid0.coords t) 2 = 2048) ∧ t.val < 16 :=
  (by decide +kernel : ∀ t : Fin grid0.N, _)

/-- The first window's block at point `t` is the table's rows from `512 t` on. -/
theorem rows_eq (c : Dev nD) (t : Fin cfg0.N) (k : S512x1024.Idx) (q : S8192x1024.Idx)
    (h0 : (q 0).val = t.val * 512 + (k 0).val) (h1 : (q 1).val = (k 1).val) : iblk m c 0 t k = table m c q := by
  have hi := (idx_facts t).1
  show V m c main_arg1 ((win0_0.rect t).emb k) = _
  rw [V_main_arg1]
  refine congrArg (table m c) (Shape.idx_ext₂ ?_ ?_)
  · exact ((win0_0.rect_emb_val t k 0).trans (by rw [hi.1]; exact h0.symm))
  · exact ((win0_0.rect_emb_val t k 1).trans (by rw [hi.2, Nat.zero_add]; exact h1.symm))

/-- The second window's block at point `t` starts with the table's row after those, the first row after the last. -/
theorem next_eq (c : Dev nD) (t : Fin cfg0.N) (k : S8x1024.Idx) (q : S8192x1024.Idx) (hk : (k 0).val = 0)
    (h0 : (q 0).val = ((t.val + 1) % 16) * 512) (h1 : (q 1).val = (k 1).val) : iblk m c 1 t k = table m c q := by
  have hi := (idx_facts t).2.1
  show V m c main_arg1 ((win0_1.rect t).emb k) = _
  rw [V_main_arg1]
  refine congrArg (table m c) (Shape.idx_ext₂ ?_ ?_)
  · exact ((win0_1.rect_emb_val t k 0).trans (by
      have hk' : ((k 0 : Fin _) : Nat) = 0 := hk
      rw [hi.1]; exact (congrArg _ hk').trans h0.symm))
  · exact ((win0_1.rect_emb_val t k 1).trans (by rw [hi.2, Nat.zero_add]; exact h1.symm))

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is its block of the embedding of the table. -/
theorem flushed_eq (c : Dev nD) (t : Fin cfg0.N) :
    (dats m 0 c).flushed 2 t = (win0_2.blk t).view.read (Elt F) (val m c) := by
  show (cfg0.win 2).cut (grid0.coords t) ((dats m 0 c).after 2 t) = _
  rw [after0_2]
  unfold out0_2
  rw [View.canon_unit_zero hz3, View.ld_unit_zero hz2, View.ld_unit_zero hz2]
  have hi := idx_facts t
  funext j
  show k0_pay1 (iblk m c 0 t) (iblk m c 1 t) j = val m c ((win0_2.rect t).emb j)
  rw [pay_eq]
  refine Cert.Rope.tile_apply (FloatOps.sin) (FloatOps.cos) (table m c) (iblk m c 0 t) (iblk m c 1 t) t.val hi.2.2.2.2
    (rows_eq m c t) (next_eq m c t) _ _ _ _ j ((win0_2.rect t).emb j) ?_ ?_
  · exact (win0_2.rect_emb_val t j 1).trans (by rw [hi.2.2.1.2.1])
  · exact (win0_2.rect_emb_val t j 2).trans (by rw [hi.2.2.1.2.2, Nat.zero_add])

/-- An index of the result is in point `t`'s block when its row is one of the 512 from `512 t` on. -/
theorem mem_blk (t : Fin cfg0.N) (i : S4x8192x2048.Idx) (h : t.val * 512 ≤ (i 1).val ∧ (i 1).val < t.val * 512 + 512) :
    i ∈ ((cfg0.win 2).blk t).view.set := by
  show i ∈ ((View.whole main_v0).slice (win0_2.rect t)).set
  rw [View.set_slice_whole, Rect.mem_set_unit]
  have h0 : (i 0 : Nat) < 4 := (i 0).isLt
  have h2 : (i 2 : Nat) < 2048 := (i 2).isLt
  have e := (idx_facts t).2.2
  intro a
  show win0_2.index t a * win0_2.size a ≤ (i a : Nat)
    ∧ (i a : Nat) < win0_2.index t a * win0_2.size a + win0_2.xsize (grid0.coords t) a
  match a with
  | ⟨0, _⟩ =>
    show win0_2.index t 0 * win0_2.size 0 ≤ (i 0 : Nat) ∧ (i 0 : Nat) < win0_2.index t 0 * win0_2.size 0 + win0_2.xsize (grid0.coords t) 0
    rw [e.1.1, e.2.1.1]; omega
  | ⟨1, _⟩ =>
    show win0_2.index t 1 * win0_2.size 1 ≤ (i 1 : Nat) ∧ (i 1 : Nat) < win0_2.index t 1 * win0_2.size 1 + win0_2.xsize (grid0.coords t) 1
    rw [e.1.2.1, e.2.1.2.1]; exact h
  | ⟨2, _⟩ =>
    show win0_2.index t 2 * win0_2.size 2 ≤ (i 2 : Nat) ∧ (i 2 : Nat) < win0_2.index t 2 * win0_2.size 2 + win0_2.xsize (grid0.coords t) 2
    rw [e.1.2.2, e.2.1.2.2]; omega

/-- The sixteen blocks fill the result array. -/
theorem cover (i : S4x8192x2048.Idx) :
    ∃ t : Fin cfg0.N, (cfg0.win 2).flush t = true ∧ i ∈ ((cfg0.win 2).blk t).view.set := by
  have h1 : (i 1 : Nat) < 8192 := (i 1).isLt
  have hN : cfg0.N = 16 := N_0
  refine ⟨⟨(i 1 : Nat) / 512, by omega⟩, flush0_2 _, mem_blk _ _ ⟨?_, ?_⟩⟩
  · show (i 1 : Nat) / 512 * 512 ≤ (i 1 : Nat); omega
  · show (i 1 : Nat) < (i 1 : Nat) / 512 * 512 + 512; omega

/-- So the result array ends holding the embedding of the table. -/
theorem final_eq (c : Dev nD) : (dats m 0 c).arrAt 2 cfg0.N = val m c :=
  (dats m 0 c).arrAt_eq_of_cover 2 (val m c) (fun t _ => flushed_eq m c t) cover

/-- The whole run: every fair execution ends with the embedding of the table in the result and the arguments unchanged. -/
theorem run : θ_run defs (onTc (τ := τ) (main (F := F))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.RopeValue

end
-- ==== Proof.RefValue.lean ====
/- The reference's result array: the looked-up rows are the table's own (the positions looked up count from 0 to 8191), so the
   result is the sine of the table beside the cosine of the table rolled up by one row, for any float values. -/
module

public import proofs.«01_k».proof.Defs
public import proofs.«01_k».proof.Proof.Gen.ReferenceIdeal.Run
public import proofs.«01_k».proof.Proof.Gen.ReferenceIdeal.Read
public import proofs.«01_k».proof.Proof.Tile
public import Idealize.ShloMosaic.Lib.Affine
public import Idealize.ShloMosaic.Lib.ReduceAll

@[expose] public section

set_option maxRecDepth 16384

noncomputable section

open Idealize.ShloMosaic Idealize.ShloMosaic.TcCoe Idealize.SL.Sem Idealize.ShloMosaic.ValueIdx

namespace Cert.ReferenceIdeal.RopeValue

open Cert.ReferenceIdeal Cert.ReferenceIdeal.Gen Cert.ReferenceIdeal.Read

variable {F : FTy → Type} [FloatOps F]

/-- A position below 8192 as a 32-bit word, read signed, is the position. -/
theorem toInt_pos (n : Nat) (h : n < 8192) : (BitVec.ofNat 32 n).toInt = (n : Int) := by
  rw [BitVec.toInt_eq_toNat_of_lt (by rw [BitVec.toNat_ofNat, Nat.mod_eq_of_lt (by omega)]; omega), BitVec.toNat_ofNat,
    Nat.mod_eq_of_lt (by omega)]

/-- The position looked up for row `r` is `r`: it is not negative, so nothing is added to it. -/
theorem pos_apply (i : S4x8192x1.Idx) : val_main_call0_v5 (F := F) i = BitVec.ofNat 32 (i 1).val := by
  have hi : (i 1).val < 8192 := (i 1).isLt
  rw [val_main_call0_v5_apply, val_main_call0_v4_apply, val_main_call0_v1_apply, val_main_call0_v0_apply,
    val_main_call0_c_apply, val_main_v2_apply, val_main_v1_apply, val_main_v0_apply]
  show Scalar.select (IntOp.cmpi .slt (BitVec.ofNat 32 (i 1).val) 0#32) _ (BitVec.ofNat 32 (i 1).val) = _
  unfold Scalar.select
  refine if_neg fun h => ?_
  have h' := IntOp.cmpi_slt.mp h
  rw [toInt_pos _ hi, show (0#32 : BitVec 32).toInt = 0 from by decide] at h'
  omega

/-- Every position is in range, so the mask of the lookup is set everywhere. -/
theorem mask_apply (i : S4x8192.Idx) : val_main_call0_v12 (F := F) i = 1#1 := by
  unfold val_main_call0_v12
  refine Host.reduce_andi_one _ _ _ _ i rfl fun k => ?_
  have hk : (k 1).val < 8192 := (k 1).isLt
  rw [val_main_call0_v11_apply, val_main_call0_v7_apply, val_main_call0_v10_apply, val_main_call0_v6_apply,
    val_main_call0_c_2_apply, val_main_call0_v9_apply, val_main_call0_v8_apply, val_main_call0_c_1_apply, pos_apply,
    IntOp.cmpi_sge.mpr, IntOp.cmpi_sle.mpr]
  · rfl
  · rw [toInt_pos _ hk, show (8191#32 : BitVec 32).toInt = 8191 from by decide]; omega
  · rw [toInt_pos _ hk, show (0#32 : BitVec 32).toInt = 0 from by decide]; omega

/-- The rows gathered from a table at a list of positions, read at an index: the table at the position, read signed and
    brought into range, and at the index's lane. -/
theorem gather_apply {α : Type} (x : S8192x1024.Idx → α) (idx : IVec S4x8192x1 32) (y : S4x8192x1024.Idx) :
    Host.gather gather_S8192x1024_S4x8192x1_S4x8192x1024_2_0_n_n_0_2_11024 x idx y
      = x (ix2 ⟨min (idx (ix3 (y 0) (y 1) ⟨0, by decide⟩)).toInt.toNat 8191, by omega⟩ (y 2)) := by
  unfold Host.gather
  refine congrArg x (Shape.idx_ext₂ ?_ ?_)
  · show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S4x8192x1_S4x8192x1024_2_0_n_n_0_2_11024.startIndexMap from
      List.mem_singleton.mpr rfl)]
    have hsi : gather_S8192x1024_S4x8192x1_S4x8192x1024_2_0_n_n_0_2_11024.siIdx y
        ⟨List.idxOf (0 : Fin 2) gather_S8192x1024_S4x8192x1_S4x8192x1024_2_0_n_n_0_2_11024.startIndexMap,
          List.idxOf_lt_length_iff.2 (List.mem_singleton.mpr rfl)⟩ = ix3 (y 0) (y 1) ⟨0, by decide⟩ := by
      funext b
      match b with
      | ⟨0, _⟩ => rfl
      | ⟨1, _⟩ => rfl
      | ⟨2, _⟩ => rfl
    rw [hsi]
    rfl
  · show GatherDims.start _ y idx 1 + GatherDims.batchCoord _ y 1 + GatherDims.offCoord _ y 1 = _
    rw [GatherDims.batchCoord_eq_zero _ _ _ List.not_mem_nil]
    unfold GatherDims.start
    rw [dif_neg (show (1 : Fin 2) ∉ gather_S8192x1024_S4x8192x1_S4x8192x1024_2_0_n_n_0_2_11024.startIndexMap from
      fun h => absurd (List.mem_singleton.mp h) (by decide))]
    simp only [Nat.add_zero, Nat.zero_add]
    unfold GatherDims.offCoord
    rw [dif_pos ((GatherDims.mem_sKept _ _).mpr ⟨fun h => absurd (List.mem_singleton.mp h) (by decide), List.not_mem_nil⟩)]
    rfl

/-- The looked-up array at batch `b`, row `r`, lane `l` is the table at row `r`, lane `l`. -/
theorem lookup_apply (x : S8192x1024.Idx → F .f32) (j : S4x8192x1024.Idx) :
    val_main_v3 (F := F) x j = x (ix2 (j 1) (j 2)) := by
  have hj : (j 1).val < 8192 := (j 1).isLt
  rw [val_main_v3_apply, val_main_call0_v14_apply, mask_apply]
  show Scalar.select 1#1 _ _ = _
  unfold Scalar.select
  refine (if_pos rfl).trans ?_
  unfold val_main_call0_v13
  rw [gather_apply]
  refine congrArg x (Shape.idx_ext₂ ?_ rfl)
  show min (val_main_call0_v5 (F := F) (ix3 (j 0) (j 1) ⟨0, by decide⟩)).toInt.toNat 8191 = (j 1).val
  rw [pos_apply]
  show min (BitVec.ofNat 32 (j 1).val).toInt.toNat 8191 = (j 1).val
  rw [toInt_pos _ hj]
  omega

/-- The rolled table at row `r` is the table at the row after `r`, the first row after the last. -/
theorem rolled_apply (x : S8192x1024.Idx → F .f32) (k q : S8192x1024.Idx) (h0 : (q 0).val = ((k 0).val + 1) % 8192)
    (h1 : (q 1).val = (k 1).val) : val_main_v4 (F := F) x k = x q := by
  have hk : (k 0).val < 8192 := (k 0).isLt
  unfold val_main_v4
  by_cases h : (k 0).val < 8191
  · rw [concatenate_pair_apply_left 0 _ _ concatenates_S8191x1024_S1x1024_S8192x1024_d0 k rfl (ix2 ⟨(k 0).val, h⟩ (k 1))
      (fun a => match a with | ⟨0, _⟩ => rfl | ⟨1, _⟩ => rfl), val_main_call1_v0_apply]
    refine congrArg x (Shape.idx_ext₂ ?_ h1.symm)
    show 1 + (k 0).val = (q 0).val
    omega
  · rw [concatenate_pair_apply_right 0 _ _ concatenates_S8191x1024_S1x1024_S8192x1024_d0 k rfl rfl (ix2 ⟨0, by decide⟩ (k 1))
      (fun a ha => match a, ha with | ⟨0, _⟩, ha => absurd rfl ha | ⟨1, _⟩, _ => rfl)
      (by show 0 + 8191 = (k 0).val; omega), val_main_call1_v1_apply]
    refine congrArg x (Shape.idx_ext₂ ?_ h1.symm)
    show 0 = (q 0).val
    omega

/-- The reference's result is the embedding of its table, by the host's sine and cosine. -/
theorem result_eq (x : S8192x1024.Idx → F .f32) :
    val_main_v9 (F := F) x = Cert.Rope.embed (FloatOps.hostUnary .sin) (FloatOps.hostUnary .cos) x := by
  funext j
  have hj2 : (j 2).val < 2048 := (j 2).isLt
  unfold val_main_v9
  by_cases h : (j 2).val < 1024
  · rw [concatenate_pair_apply_left 2 _ _ concatenates_S4x8192x1024_S4x8192x1024_S4x8192x2048_d2 j rfl
      (ix3 (j 0) (j 1) ⟨(j 2).val, h⟩) (fun a => match a with | ⟨0, _⟩ => rfl | ⟨1, _⟩ => rfl | ⟨2, _⟩ => rfl),
      val_main_v5_apply, lookup_apply]
    exact (Cert.Rope.embed_left _ _ x j (ix2 (j 1) ⟨(j 2).val, h⟩) rfl rfl).symm
  · rw [concatenate_pair_apply_right 2 _ _ concatenates_S4x8192x1024_S4x8192x1024_S4x8192x2048_d2 j rfl rfl
      (ix3 (j 0) (j 1) ⟨(j 2).val - 1024, by omega⟩)
      (fun a ha => match a, ha with | ⟨0, _⟩, _ => rfl | ⟨1, _⟩, _ => rfl | ⟨2, _⟩, ha => absurd rfl ha)
      (by show (j 2).val - 1024 + 1024 = (j 2).val; omega),
      val_main_v8_apply, val_main_v7_apply, val_main_v6_apply]
    refine (congrArg (FloatOps.hostUnary .cos)
      (rolled_apply x (idx_main_v7 (idx_main_v8 (ix3 (j 0) (j 1) ⟨(j 2).val - 1024, by omega⟩)))
        (ix2 (Cert.Rope.succRow (j 1)) ⟨(j 2).val - 1024, by omega⟩) rfl rfl)).trans ?_
    exact (Cert.Rope.embed_right _ _ x j (ix2 (Cert.Rope.succRow (j 1)) ⟨(j 2).val - 1024, by omega⟩) rfl
      (by show (j 2).val - 1024 + 1024 = (j 2).val; omega)).symm

variable (m : (ℓ : Loc nD τ sig) → Buf (Elt F) ℓ) (ρ : Dev nD → PrngReg)

/-- The whole run: every fair execution ends with the embedding of the table in the result and the arguments unchanged. -/
theorem run : θ_run defs (onTc (τ := τ) (main (F := F))) ⟨m, fun _ => 0, ρ⟩ fun r => ∀ c : Dev nD,
      r.2.mem ((c : Thread nD τ).loc main_v9)
        = Cert.Rope.embed (FloatOps.hostUnary .sin) (FloatOps.hostUnary .cos) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((val_main_v9_eq (F := F) (m ((c : Thread nD τ).loc main_arg1))).trans (result_eq _)), (h c).2⟩)
    (Value.run m ρ)

end Cert.ReferenceIdeal.RopeValue

end
-- ==== Proof.PolyValue.lean ====
/- The polynomial version's result array: one polynomial of the table beside another of the table's rows moved up by one, for
   any float values. -/
module

public import proofs.«01_k».proof.Defs
public import proofs.«01_k».proof.Proof.Gen.KernelPolyIdeal.Value
public import proofs.«01_k».proof.Proof.Tile

@[expose] public section

set_option maxRecDepth 16384

noncomputable section

open Idealize.ShloMosaic Idealize.ShloMosaic.TcCoe Idealize.SL.Sem
open Idealize.ShloMosaic.Pipeline (Dat)

namespace Cert.KernelPolyIdeal.RopeValue

open Cert.KernelPolyIdeal Cert.KernelPolyIdeal.Gen

variable {F : FTy → Type} [FloatOps F]
variable (m : (ℓ : Loc nD τ sig) → Buf (Elt F) ℓ) (ρ : Dev nD → PrngReg)

/-- The kernel's polynomial near the sine, at one value. -/
def sinPoly (x : F .f32) : F .f32 :=
  FloatOps.mulf x (FloatOps.addf (FloatOps.ofBits .f32 0x3F800000#32) (FloatOps.mulf (FloatOps.mulf x x)
    (FloatOps.addf (FloatOps.ofBits .f32 0xBE2AAAAB#32) (FloatOps.mulf (FloatOps.mulf x x)
      (FloatOps.addf (FloatOps.ofBits .f32 0x3C088889#32) (FloatOps.mulf (FloatOps.mulf x x) (FloatOps.ofBits .f32 0xB9500D01#32)))))))

/-- The kernel's polynomial near the cosine, at one value. -/
def cosPoly (x : F .f32) : F .f32 :=
  FloatOps.addf (FloatOps.ofBits .f32 0x3F800000#32) (FloatOps.mulf (FloatOps.mulf x x)
    (FloatOps.addf (FloatOps.ofBits .f32 0xBF000000#32) (FloatOps.mulf (FloatOps.mulf x x)
      (FloatOps.addf (FloatOps.ofBits .f32 0x3D2AAAAB#32) (FloatOps.mulf (FloatOps.mulf x x)
        (FloatOps.addf (FloatOps.ofBits .f32 0xBAB60B61#32) (FloatOps.mulf (FloatOps.mulf x x) (FloatOps.ofBits .f32 0x37D00D01#32))))))))

/-- The table, as device `c` is launched with it. -/
abbrev table (c : Dev nD) : S8192x1024.Idx → F .f32 := m ((c : Thread nD τ).loc main_arg1)

/-- What the result array is shown to hold: the embedding of the table. -/
abbrev val (c : Dev nD) : Buf (Elt F) ((c : Thread nD τ).loc main_v0) :=
  Cert.Rope.embed (sinPoly) (cosPoly) (table m c)

/-- The body's result for the blocks `rows` and `next`: its two halves, the second over the shifted rows, side by side. -/
theorem pay_eq (rows : Vec F S512x1024 .f32) (next : Vec F S8x1024 .f32) :
    k0_pay1 rows next = broadcastTo S4x512x2048 (shapeCast S1x512x2048 (shapeCast S1x512x2048
        (concatenate S512x2048 1 [⟨S512x1024, fun k => sinPoly (rows k)⟩,
          ⟨S512x1024, fun k => cosPoly (Cert.Rope.shiftUp rows next k)⟩] concatenates_S512x1024_S512x1024_S512x2048_d1)
        shapeCasts_S512x2048_S1x512x2048) shapeCasts_S1x512x2048_S1x512x2048) broadcasts_S1x512x2048_S4x512x2048 := by
  rw [← Cert.Rope.shiftUp_eq rows next slices_S512x1024_o1_0_S511x1024 slices_S8x1024_o0_0_S1x1024
    concatenates_S511x1024_S1x1024_S512x1024_d0]
  rfl

/-- Where the three windows' blocks lie at point `t`: the rows from `512 t` on, the eight rows that start the tile after,
    and the result's rows from `512 t` on. -/
theorem idx_facts : ∀ t : Fin cfg0.N,
    (win0_0.index t 0 * win0_0.size 0 = t.val * 512 ∧ win0_0.index t 1 * win0_0.size 1 = 0)
    ∧ (win0_1.index t 0 * win0_1.size 0 = ((t.val + 1) % 16) * 512 ∧ win0_1.index t 1 * win0_1.size 1 = 0)
    ∧ (win0_2.index t 0 * win0_2.size 0 = 0 ∧ win0_2.index t 1 * win0_2.size 1 = t.val * 512
      ∧ win0_2.index t 2 * win0_2.size 2 = 0)
    ∧ (win0_2.xsize (grid0.coords t) 0 = 4 ∧ win0_2.xsize (grid0.coords t) 1 = 512
      ∧ win0_2.xsize (grid0.coords t) 2 = 2048) ∧ t.val < 16 :=
  (by decide +kernel : ∀ t : Fin grid0.N, _)

/-- The first window's block at point `t` is the table's rows from `512 t` on. -/
theorem rows_eq (c : Dev nD) (t : Fin cfg0.N) (k : S512x1024.Idx) (q : S8192x1024.Idx)
    (h0 : (q 0).val = t.val * 512 + (k 0).val) (h1 : (q 1).val = (k 1).val) : iblk m c 0 t k = table m c q := by
  have hi := (idx_facts t).1
  show V m c main_arg1 ((win0_0.rect t).emb k) = _
  rw [V_main_arg1]
  refine congrArg (table m c) (Shape.idx_ext₂ ?_ ?_)
  · exact ((win0_0.rect_emb_val t k 0).trans (by rw [hi.1]; exact h0.symm))
  · exact ((win0_0.rect_emb_val t k 1).trans (by rw [hi.2, Nat.zero_add]; exact h1.symm))

/-- The second window's block at point `t` starts with the table's row after those, the first row after the last. -/
theorem next_eq (c : Dev nD) (t : Fin cfg0.N) (k : S8x1024.Idx) (q : S8192x1024.Idx) (hk : (k 0).val = 0)
    (h0 : (q 0).val = ((t.val + 1) % 16) * 512) (h1 : (q 1).val = (k 1).val) : iblk m c 1 t k = table m c q := by
  have hi := (idx_facts t).2.1
  show V m c main_arg1 ((win0_1.rect t).emb k) = _
  rw [V_main_arg1]
  refine congrArg (table m c) (Shape.idx_ext₂ ?_ ?_)
  · exact ((win0_1.rect_emb_val t k 0).trans (by
      have hk' : ((k 0 : Fin _) : Nat) = 0 := hk
      rw [hi.1]; exact (congrArg _ hk').trans h0.symm))
  · exact ((win0_1.rect_emb_val t k 1).trans (by rw [hi.2, Nat.zero_add]; exact h1.symm))

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is its block of the embedding of the table. -/
theorem flushed_eq (c : Dev nD) (t : Fin cfg0.N) :
    (dats m 0 c).flushed 2 t = (win0_2.blk t).view.read (Elt F) (val m c) := by
  show (cfg0.win 2).cut (grid0.coords t) ((dats m 0 c).after 2 t) = _
  rw [after0_2]
  unfold out0_2
  rw [View.canon_unit_zero hz3, View.ld_unit_zero hz2, View.ld_unit_zero hz2]
  have hi := idx_facts t
  funext j
  show k0_pay1 (iblk m c 0 t) (iblk m c 1 t) j = val m c ((win0_2.rect t).emb j)
  rw [pay_eq]
  refine Cert.Rope.tile_apply (sinPoly) (cosPoly) (table m c) (iblk m c 0 t) (iblk m c 1 t) t.val hi.2.2.2.2
    (rows_eq m c t) (next_eq m c t) _ _ _ _ j ((win0_2.rect t).emb j) ?_ ?_
  · exact (win0_2.rect_emb_val t j 1).trans (by rw [hi.2.2.1.2.1])
  · exact (win0_2.rect_emb_val t j 2).trans (by rw [hi.2.2.1.2.2, Nat.zero_add])

/-- An index of the result is in point `t`'s block when its row is one of the 512 from `512 t` on. -/
theorem mem_blk (t : Fin cfg0.N) (i : S4x8192x2048.Idx) (h : t.val * 512 ≤ (i 1).val ∧ (i 1).val < t.val * 512 + 512) :
    i ∈ ((cfg0.win 2).blk t).view.set := by
  show i ∈ ((View.whole main_v0).slice (win0_2.rect t)).set
  rw [View.set_slice_whole, Rect.mem_set_unit]
  have h0 : (i 0 : Nat) < 4 := (i 0).isLt
  have h2 : (i 2 : Nat) < 2048 := (i 2).isLt
  have e := (idx_facts t).2.2
  intro a
  show win0_2.index t a * win0_2.size a ≤ (i a : Nat)
    ∧ (i a : Nat) < win0_2.index t a * win0_2.size a + win0_2.xsize (grid0.coords t) a
  match a with
  | ⟨0, _⟩ =>
    show win0_2.index t 0 * win0_2.size 0 ≤ (i 0 : Nat) ∧ (i 0 : Nat) < win0_2.index t 0 * win0_2.size 0 + win0_2.xsize (grid0.coords t) 0
    rw [e.1.1, e.2.1.1]; omega
  | ⟨1, _⟩ =>
    show win0_2.index t 1 * win0_2.size 1 ≤ (i 1 : Nat) ∧ (i 1 : Nat) < win0_2.index t 1 * win0_2.size 1 + win0_2.xsize (grid0.coords t) 1
    rw [e.1.2.1, e.2.1.2.1]; exact h
  | ⟨2, _⟩ =>
    show win0_2.index t 2 * win0_2.size 2 ≤ (i 2 : Nat) ∧ (i 2 : Nat) < win0_2.index t 2 * win0_2.size 2 + win0_2.xsize (grid0.coords t) 2
    rw [e.1.2.2, e.2.1.2.2]; omega

/-- The sixteen blocks fill the result array. -/
theorem cover (i : S4x8192x2048.Idx) :
    ∃ t : Fin cfg0.N, (cfg0.win 2).flush t = true ∧ i ∈ ((cfg0.win 2).blk t).view.set := by
  have h1 : (i 1 : Nat) < 8192 := (i 1).isLt
  have hN : cfg0.N = 16 := N_0
  refine ⟨⟨(i 1 : Nat) / 512, by omega⟩, flush0_2 _, mem_blk _ _ ⟨?_, ?_⟩⟩
  · show (i 1 : Nat) / 512 * 512 ≤ (i 1 : Nat); omega
  · show (i 1 : Nat) < (i 1 : Nat) / 512 * 512 + 512; omega

/-- So the result array ends holding the embedding of the table. -/
theorem final_eq (c : Dev nD) : (dats m 0 c).arrAt 2 cfg0.N = val m c :=
  (dats m 0 c).arrAt_eq_of_cover 2 (val m c) (fun t _ => flushed_eq m c t) cover

/-- The whole run: every fair execution ends with the embedding of the table in the result and the arguments unchanged. -/
theorem run : θ_run defs (onTc (τ := τ) (main (F := F))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelPolyIdeal.RopeValue

end
-- ==== Proof.Taylor.lean ====
/- How near two polynomials lie to the sine and the cosine on [-1, 1]. -/
module

public import Mathlib.Analysis.Complex.Exponential
public import Mathlib.Analysis.SpecialFunctions.Trigonometric.Basic
public import Mathlib.Tactic.NormNum
public import Mathlib.Tactic.LinearCombination

@[expose] public section

noncomputable section

namespace Cert.Rope

/-- The first five terms of the sine's series. -/
def sinSum (r : ℝ) : ℝ := r - r ^ 3 / 6 + r ^ 5 / 120 - r ^ 7 / 5040 + r ^ 9 / 362880

/-- The first six terms of the cosine's series. -/
def cosSum (r : ℝ) : ℝ := 1 - r ^ 2 / 2 + r ^ 4 / 24 - r ^ 6 / 720 + r ^ 8 / 40320 - r ^ 10 / 3628800

/-- The first eleven terms of the exponential's series at `r i`, parted into the two sums. -/
theorem exp_terms (r : ℝ) :
    ∑ k ∈ Finset.range 11, ((r : ℂ) * Complex.I) ^ k / (Nat.factorial k : ℂ) = (cosSum r : ℂ) + (sinSum r : ℂ) * Complex.I := by
  have h2 : Complex.I ^ 2 = -1 := Complex.I_sq
  have h3 : Complex.I ^ 3 = -Complex.I := by rw [pow_succ, h2]; ring
  have h4 : Complex.I ^ 4 = 1 := by rw [pow_succ, h3]; linear_combination -h2
  have h5 : Complex.I ^ 5 = Complex.I := by rw [pow_succ, h4]; ring
  have h6 : Complex.I ^ 6 = -1 := by rw [pow_succ, h5]; linear_combination h2
  have h7 : Complex.I ^ 7 = -Complex.I := by rw [pow_succ, h6]; ring
  have h8 : Complex.I ^ 8 = 1 := by rw [pow_succ, h7]; linear_combination -h2
  have h9 : Complex.I ^ 9 = Complex.I := by rw [pow_succ, h8]; ring
  have h10 : Complex.I ^ 10 = -1 := by rw [pow_succ, h9]; linear_combination h2
  simp only [Finset.sum_range_succ, Finset.sum_range_zero, mul_pow, h2, h3, h4, h5, h6, h7, h8, h9, h10, sinSum, cosSum,
    Nat.factorial]
  push_cast
  ring

/-- On [-1, 1] both sums lie within 12 / (11! 11) of the functions. -/
theorem sums_near (r : ℝ) (hr : |r| ≤ 1) :
    |Real.cos r - cosSum r| ≤ 3 / 10 ^ 8 ∧ |Real.sin r - sinSum r| ≤ 3 / 10 ^ 8 := by
  have hn : ‖(r : ℂ) * Complex.I‖ = |r| := by simp
  have hb := Complex.exp_bound (x := (r : ℂ) * Complex.I) (by rw [hn]; exact hr) (n := 11) (by norm_num)
  rw [exp_terms, Complex.exp_mul_I, ← Complex.ofReal_cos, ← Complex.ofReal_sin, hn] at hb
  have hle : |r| ^ 11 * (((11 : ℕ).succ : ℝ) * ((Nat.factorial 11 : ℝ) * ((11 : ℕ) : ℝ))⁻¹) ≤ 3 / 10 ^ 8 := by
    have h1 : |r| ^ 11 ≤ 1 := pow_le_one₀ (abs_nonneg r) hr
    have h2 : (((11 : ℕ).succ : ℝ) * ((Nat.factorial 11 : ℝ) * ((11 : ℕ) : ℝ))⁻¹) ≤ 3 / 10 ^ 8 := by
      simp only [Nat.factorial]; norm_num
    calc _ ≤ 1 * (((11 : ℕ).succ : ℝ) * ((Nat.factorial 11 : ℝ) * ((11 : ℕ) : ℝ))⁻¹) :=
          mul_le_mul_of_nonneg_right h1 (by positivity)
      _ ≤ _ := by rw [one_mul]; exact h2
  have hb' := hb.trans hle
  constructor
  · refine le_trans ?_ ((Complex.abs_re_le_norm _).trans hb')
    apply le_of_eq
    simp [-Complex.ofReal_cos, -Complex.ofReal_sin]
  · refine le_trans ?_ ((Complex.abs_im_le_norm _).trans hb')
    apply le_of_eq
    simp [-Complex.ofReal_cos, -Complex.ofReal_sin]

/-- On [-1, 1] a term `c rᵏ` is at most `|c|` in absolute value. -/
theorem term_le (c r : ℝ) (k : ℕ) (hr : |r| ≤ 1) : |c * r ^ k| ≤ |c| := by
  rw [abs_mul, abs_pow]
  exact mul_le_of_le_one_right (abs_nonneg c) (pow_le_one₀ (abs_nonneg r) hr)

/-- A polynomial `r (1 + r² (a + r² (b + r² c)))` whose coefficients are near -1/6, 1/120 and -1/5040 is within 2.9e-6 of the
    sine on [-1, 1]. -/
theorem sin_near (a b c r : ℝ) (hr : |r| ≤ 1) (ha : |a - (-1 / 6)| ≤ 1 / 10 ^ 8) (hb : |b - 1 / 120| ≤ 1 / 10 ^ 9)
    (hc : |c - (-1 / 5040)| ≤ 1 / 10 ^ 10) :
    |r * (1 + r * r * (a + r * r * (b + r * r * c))) - Real.sin r| ≤ 29 / 10 ^ 7 := by
  have hs := (sums_near r hr).2
  have e : r * (1 + r * r * (a + r * r * (b + r * r * c))) - Real.sin r
      = (a - (-1 / 6)) * r ^ 3 + (b - 1 / 120) * r ^ 5 + (c - (-1 / 5040)) * r ^ 7 + (-1 / 362880) * r ^ 9
        - (Real.sin r - sinSum r) := by
    unfold sinSum; ring
  rw [e]
  have t3 := abs_le.mp ((term_le (a - (-1 / 6)) r 3 hr).trans ha)
  have t5 := abs_le.mp ((term_le (b - 1 / 120) r 5 hr).trans hb)
  have t7 := abs_le.mp ((term_le (c - (-1 / 5040)) r 7 hr).trans hc)
  have t9 := abs_le.mp (term_le (-1 / 362880) r 9 hr)
  rw [show |(-1 / 362880 : ℝ)| = 1 / 362880 by rw [abs_of_neg (by norm_num)]; norm_num] at t9
  have ts := abs_le.mp hs
  rw [abs_le]
  constructor <;> linarith [t3.1, t3.2, t5.1, t5.2, t7.1, t7.2, t9.1, t9.2, ts.1, ts.2]

/-- A polynomial `1 + r² (-1/2 + r² (a + r² (b + r² c)))` whose coefficients are near 1/24, -1/720 and 1/40320 is within 2.9e-6
    of the cosine on [-1, 1]. -/
theorem cos_near (a b c r : ℝ) (hr : |r| ≤ 1) (ha : |a - 1 / 24| ≤ 1 / 10 ^ 8) (hb : |b - (-1 / 720)| ≤ 1 / 10 ^ 9)
    (hc : |c - 1 / 40320| ≤ 1 / 10 ^ 10) :
    |1 + r * r * (-1 / 2 + r * r * (a + r * r * (b + r * r * c))) - Real.cos r| ≤ 29 / 10 ^ 7 := by
  have hs := (sums_near r hr).1
  have e : 1 + r * r * (-1 / 2 + r * r * (a + r * r * (b + r * r * c))) - Real.cos r
      = (a - 1 / 24) * r ^ 4 + (b - (-1 / 720)) * r ^ 6 + (c - 1 / 40320) * r ^ 8 + (1 / 3628800) * r ^ 10
        - (Real.cos r - cosSum r) := by
    unfold cosSum; ring
  rw [e]
  have t4 := abs_le.mp ((term_le (a - 1 / 24) r 4 hr).trans ha)
  have t6 := abs_le.mp ((term_le (b - (-1 / 720)) r 6 hr).trans hb)
  have t8 := abs_le.mp ((term_le (c - 1 / 40320) r 8 hr).trans hc)
  have t10 := abs_le.mp (term_le (1 / 3628800) r 10 hr)
  rw [abs_of_pos (show (0 : ℝ) < 1 / 3628800 by norm_num)] at t10
  have ts := abs_le.mp hs
  rw [abs_le]
  constructor <;> linarith [t4.1, t4.2, t6.1, t6.2, t8.1, t8.2, t10.1, t10.2, ts.1, ts.2]

end Cert.Rope

end
-- ==== Proof.Consts.lean ====
/- The real numbers that the printed float constants denote. -/
module

public import Idealize.ShloMosaic.PureOps.Ideal

@[expose] public section

noncomputable section

open Idealize.ShloMosaic

namespace Cert.Rope

/-- The printed one. -/
theorem word_one : Ideal.ofBits .f32 0x3F800000#32 = ((1 : ℝ) : EReal) := by
  simp [Ideal.ofBits, Ideal.ieee, -EReal.coe_mul]; norm_num
/-- The printed minus one half. -/
theorem word_neg_half : Ideal.ofBits .f32 0xBF000000#32 = ((-1 / 2 : ℝ) : EReal) := by
  simp [Ideal.ofBits, Ideal.ieee, -EReal.coe_mul]; norm_num
/-- The float nearest to -1/6. -/
theorem word_s3 : Ideal.ofBits .f32 0xBE2AAAAB#32 = ((-11184811 / 2 ^ 26 : ℝ) : EReal) := by
  simp [Ideal.ofBits, Ideal.ieee, -EReal.coe_mul]; norm_num
/-- The float nearest to 1/120. -/
theorem word_s5 : Ideal.ofBits .f32 0x3C088889#32 = ((8947849 / 2 ^ 30 : ℝ) : EReal) := by
  simp [Ideal.ofBits, Ideal.ieee, -EReal.coe_mul]; norm_num
/-- The float nearest to -1/5040. -/
theorem word_s7 : Ideal.ofBits .f32 0xB9500D01#32 = ((-13634817 / 2 ^ 36 : ℝ) : EReal) := by
  simp [Ideal.ofBits, Ideal.ieee, -EReal.coe_mul]; norm_num
/-- The float nearest to 1/24. -/
theorem word_c4 : Ideal.ofBits .f32 0x3D2AAAAB#32 = ((11184811 / 2 ^ 28 : ℝ) : EReal) := by
  simp [Ideal.ofBits, Ideal.ieee, -EReal.coe_mul]; norm_num
/-- The float nearest to -1/720. -/
theorem word_c6 : Ideal.ofBits .f32 0xBAB60B61#32 = ((-11930465 / 2 ^ 33 : ℝ) : EReal) := by
  simp [Ideal.ofBits, Ideal.ieee, -EReal.coe_mul]; norm_num
/-- The float nearest to 1/40320. -/
theorem word_c8 : Ideal.ofBits .f32 0x37D00D01#32 = ((13634817 / 2 ^ 39 : ℝ) : EReal) := by
  simp [Ideal.ofBits, Ideal.ieee, -EReal.coe_mul]; norm_num
/-- The float nearest to 3e-6. -/
theorem word_tol : Ideal.ofBits .f32 0x3649539C#32 = ((13194140 / 2 ^ 42 : ℝ) : EReal) := by
  simp [Ideal.ofBits, Ideal.ieee, -EReal.coe_mul]; norm_num

end Cert.Rope

end
-- ==== Proof.PostRead.lean ====
/- The precondition and the postcondition of the polynomial version, read element by element. -/
module

public import proofs.«01_k».proof.Defs
public import proofs.«01_k».proof.Proof.Tile

@[expose] public section

set_option maxRecDepth 16384

noncomputable section

open Idealize.ShloMosaic Idealize.ShloMosaic.ValueIdx

namespace Cert.Rope

variable {F : FTy → Type} [FloatOps F]

/-- The precondition at an index compares the table's absolute value there with one. -/
theorem pre_apply [Cert.Pre_table_in_unit.Facts] (x : IVec ⟨2, ![4, 8192]⟩ 32) (T : STable.Idx → F .f32) (k : STable.Idx) :
    Cert.Pre_table_in_unit.fn (F := F) x T k
      = FloatOps.cmpf .ole (FloatOps.hostAbsf (T k)) (FloatOps.ofBits .f32 0x3F800000#32) := rfl

/-- The rows that the postcondition compares with, repeated over the batch, are the embedding of the table. -/
theorem row_eq (T : STable.Idx → F .f32) (hs : STable.Slices ![1, 0] ⟨2, ![8191, 1024]⟩)
    (hn : STable.Slices ![0, 0] ⟨2, ![1, 1024]⟩)
    (hc : Shape.Concatenates [(⟨2, ![8191, 1024]⟩ : Shape), ⟨2, ![1, 1024]⟩] STable 0)
    (hd : Shape.Concatenates [STable, STable] ⟨2, ![8192, 2048]⟩ 1)
    (hb : (⟨2, ![8192, 2048]⟩ : Shape).BroadcastsInDim SOut (![1, 2] : Fin 2 → Fin SOut.rank)) :
    broadcastInDim SOut ![1, 2] hb (concatenate ⟨2, ![8192, 2048]⟩ 1 [⟨STable, Host.sin T⟩, ⟨STable, Host.cos
        (concatenate STable 0 [⟨⟨2, ![8191, 1024]⟩, extractStridedSlice _ ![1, 0] T hs⟩,
          ⟨⟨2, ![1, 1024]⟩, extractStridedSlice _ ![0, 0] T hn⟩] hc)⟩] hd)
      = embed (FloatOps.hostUnary .sin) (FloatOps.hostUnary .cos) T := by
  funext i
  have hi1 : (i 1).val < 8192 := (i 1).isLt
  have hi2 : (i 2).val < 2048 := (i 2).isLt
  rw [broadcastInDim_apply _ hb _ i (ix2 (i 1) (i 2)) (fun a => match a with
    | ⟨0, _⟩ => by show (i 1).val = if (8192 : Nat) = 1 then 0 else (i 1).val; rw [if_neg (by decide)]
    | ⟨1, _⟩ => by show (i 2).val = if (2048 : Nat) = 1 then 0 else (i 2).val; rw [if_neg (by decide)])]
  by_cases h : (i 2).val < 1024
  · rw [embed_left _ _ T i (ix2 (i 1) ⟨(i 2).val, h⟩) rfl rfl]
    exact concatenate_pair_apply_left 1 (Host.sin T) _ hd _ rfl (ix2 (i 1) ⟨(i 2).val, h⟩)
      (fun a => match a with | ⟨0, _⟩ => rfl | ⟨1, _⟩ => rfl)
  · rw [embed_right _ _ T i (ix2 (succRow (i 1)) ⟨(i 2).val - 1024, by omega⟩) rfl
      (by show (i 2).val - 1024 + 1024 = (i 2).val; omega)]
    refine (concatenate_pair_apply_right 1 (Host.sin T) _ hd _ rfl rfl (ix2 (i 1) ⟨(i 2).val - 1024, by omega⟩)
      (fun a ha => match a, ha with | ⟨0, _⟩, _ => rfl | ⟨1, _⟩, ha => absurd rfl ha)
      (by show (i 2).val - 1024 + 1024 = (i 2).val; omega)).trans ?_
    refine congrArg (FloatOps.hostUnary .cos) ?_
    by_cases h' : (i 1).val < 8191
    · rw [concatenate_pair_apply_left 0 _ _ hc _ rfl (ix2 ⟨(i 1).val, h'⟩ ⟨(i 2).val - 1024, by omega⟩)
        (fun a => match a with | ⟨0, _⟩ => rfl | ⟨1, _⟩ => rfl)]
      exact extractStridedSlice_apply ![1, 0] T hs _ _ (fun a => match a with
        | ⟨0, _⟩ => by show ((i 1).val + 1) % 8192 = 1 + (i 1).val; omega
        | ⟨1, _⟩ => by show (i 2).val - 1024 = 0 + ((i 2).val - 1024); omega)
    · rw [concatenate_pair_apply_right 0 _ _ hc _ rfl rfl (ix2 ⟨0, by decide⟩ ⟨(i 2).val - 1024, by omega⟩)
        (fun a ha => match a, ha with | ⟨0, _⟩, ha => absurd rfl ha | ⟨1, _⟩, _ => rfl)
        (by show 0 + 8191 = (i 1).val; omega)]
      exact extractStridedSlice_apply ![0, 0] T hn _ _ (fun a => match a with
        | ⟨0, _⟩ => by show ((i 1).val + 1) % 8192 = 0 + 0; omega
        | ⟨1, _⟩ => by show (i 2).val - 1024 = 0 + ((i 2).val - 1024); omega)

/-- The postcondition at an index compares with the tolerance the absolute difference there between the result and the
    embedding of the table. -/
theorem post_apply [Cert.Post_near_reference.Facts] (x : IVec ⟨2, ![4, 8192]⟩ 32) (T : STable.Idx → F .f32)
    (out : SOut.Idx → F .f32) (i : SOut.Idx) :
    Cert.Post_near_reference.fn (F := F) x T out i
      = FloatOps.cmpf .ole
          (FloatOps.hostAbsf (FloatOps.subf (out i) (embed (FloatOps.hostUnary .sin) (FloatOps.hostUnary .cos) T i)))
          (FloatOps.ofBits .f32 0x3649539C#32) := by
  rw [← row_eq T Cert.Post_near_reference.Facts.slices_S8192x1024_S8191x1024_1_0
    Cert.Post_near_reference.Facts.slices_S8192x1024_S1x1024_0_0
    Cert.Post_near_reference.Facts.concatenates_S8191x1024_S1x1024_S8192x1024_d0
    Cert.Post_near_reference.Facts.concatenates_S8192x1024_S8192x1024_S8192x2048_d1
    Cert.Post_near_reference.Facts.bcast_S8192x2048_S4x8192x2048_1_2]
  rfl

end Cert.Rope

end
-- ==== Proof.PolyNear.lean ====
/- The two printed polynomials over the reals: for an entry in [-1, 1] each is a real number within the tolerance of the sine,
   respectively of the cosine. -/
module

public import proofs.«01_k».proof.Proof.PolyValue
public import proofs.«01_k».proof.Proof.Taylor
public import proofs.«01_k».proof.Proof.Consts
public import proofs.«01_k».proof.Proof.PostRead

@[expose] public section

set_option maxRecDepth 16384

noncomputable section

open Idealize.ShloMosaic Cert.KernelPolyIdeal.RopeValue

namespace Cert.Rope

/-- The printed sine polynomial at a real number, as a real number. -/
theorem sinPoly_coe (r : ℝ) : sinPoly (F := Ideal) ((r : ℝ) : EReal)
    = ((r * (1 + r * r * (-11184811 / 2 ^ 26 + r * r * (8947849 / 2 ^ 30 + r * r * (-13634817 / 2 ^ 36)))) : ℝ) : EReal) := by
  unfold sinPoly
  simp only [Ideal.mulf_def, Ideal.addf_def, Ideal.ofBits_def, word_one, word_s3, word_s5, word_s7, ← EReal.coe_mul,
    ← EReal.coe_add]

/-- The printed cosine polynomial at a real number, as a real number. -/
theorem cosPoly_coe (r : ℝ) : cosPoly (F := Ideal) ((r : ℝ) : EReal)
    = ((1 + r * r * (-1 / 2 + r * r * (11184811 / 2 ^ 28 + r * r * (-11930465 / 2 ^ 33 + r * r * (13634817 / 2 ^ 39)))) : ℝ) : EReal) := by
  unfold cosPoly
  simp only [Ideal.mulf_def, Ideal.addf_def, Ideal.ofBits_def, word_one, word_neg_half, word_c4, word_c6, word_c8,
    ← EReal.coe_mul, ← EReal.coe_add]

/-- An extended real whose absolute value is at most one is a real number in [-1, 1]. -/
theorem real_of_le (x : EReal) (h : FloatOps.cmpf (F := Ideal) (φ := .f32) .ole (FloatOps.hostAbsf (F := Ideal) (φ := .f32) x)
    (FloatOps.ofBits (F := Ideal) .f32 0x3F800000#32) = 1#1) : ∃ r : ℝ, x = (r : EReal) ∧ |r| ≤ 1 := by
  rw [Ideal.ofBits_def, word_one] at h
  have h1 : BitVec.ofBool (decide (max x (-x) ≤ ((1 : ℝ) : EReal))) = 1#1 := h
  have h2 : max x (-x) ≤ ((1 : ℝ) : EReal) := by
    by_contra hne
    rw [decide_eq_false hne] at h1
    exact absurd h1 (by decide)
  induction x with
  | bot => exact absurd (show (⊤ : EReal) ≤ _ from (le_max_right (⊥ : EReal) (-⊥)).trans h2) (not_le.mpr (EReal.coe_lt_top 1))
  | top => exact absurd (show (⊤ : EReal) ≤ _ from (le_max_left (⊤ : EReal) (-⊤)).trans h2) (not_le.mpr (EReal.coe_lt_top 1))
  | coe r =>
    refine ⟨r, rfl, ?_⟩
    have h3 := le_max_left (r : EReal) (-(r : EReal)) |>.trans h2
    have h4 := le_max_right (r : EReal) (-(r : EReal)) |>.trans h2
    rw [← EReal.coe_neg] at h4
    exact abs_le'.mpr ⟨EReal.coe_le_coe_iff.mp h3, EReal.coe_le_coe_iff.mp h4⟩

/-- Two real numbers within 2.9e-6 of each other pass the printed comparison with the tolerance. -/
theorem within (p s : ℝ) (h : |p - s| ≤ 29 / 10 ^ 7) :
    FloatOps.cmpf (F := Ideal) (φ := .f32) .ole
      (FloatOps.hostAbsf (F := Ideal) (φ := .f32) (FloatOps.subf (F := Ideal) (φ := .f32) (p : EReal) (s : EReal)))
      (FloatOps.ofBits (F := Ideal) .f32 0x3649539C#32) = 1#1 := by
  rw [Ideal.ofBits_def, word_tol]
  show BitVec.ofBool (decide (max ((p : EReal) - (s : EReal)) (-((p : EReal) - (s : EReal))) ≤ _)) = 1#1
  have h1 : |p - s| ≤ 13194140 / 2 ^ 42 := h.trans (by norm_num)
  have h2 := abs_le'.mp h1
  rw [decide_eq_true]
  · rfl
  · rw [← EReal.coe_sub, ← EReal.coe_neg]
    exact max_le (EReal.coe_le_coe_iff.mpr h2.1) (EReal.coe_le_coe_iff.mpr h2.2)

/-- The sine half: for an entry in [-1, 1] the polynomial passes the comparison with the sine. -/
theorem sin_half (r : ℝ) (hr : |r| ≤ 1) :
    FloatOps.cmpf (F := Ideal) (φ := .f32) .ole
      (FloatOps.hostAbsf (F := Ideal) (φ := .f32) (FloatOps.subf (F := Ideal) (φ := .f32) (sinPoly (F := Ideal) ((r : ℝ) : EReal))
        (FloatOps.hostUnary (F := Ideal) (φ := .f32) .sin ((r : ℝ) : EReal))))
      (FloatOps.ofBits (F := Ideal) .f32 0x3649539C#32) = 1#1 := by
  rw [sinPoly_coe, Ideal.hostUnary_sin_def, Ideal.sin_coe]
  refine within _ _ (sin_near _ _ _ r hr ?_ ?_ ?_) <;> rw [abs_le] <;> constructor <;> norm_num

/-- The cosine half: for an entry in [-1, 1] the polynomial passes the comparison with the cosine. -/
theorem cos_half (r : ℝ) (hr : |r| ≤ 1) :
    FloatOps.cmpf (F := Ideal) (φ := .f32) .ole
      (FloatOps.hostAbsf (F := Ideal) (φ := .f32) (FloatOps.subf (F := Ideal) (φ := .f32) (cosPoly (F := Ideal) ((r : ℝ) : EReal))
        (FloatOps.hostUnary (F := Ideal) (φ := .f32) .cos ((r : ℝ) : EReal))))
      (FloatOps.ofBits (F := Ideal) .f32 0x3649539C#32) = 1#1 := by
  rw [cosPoly_coe, Ideal.hostUnary_cos_def, Ideal.cos_coe]
  refine within _ _ (cos_near _ _ _ r hr ?_ ?_ ?_) <;> rw [abs_le] <;> constructor <;> norm_num

/-- For a table with entries in [-1, 1] the embedding by the polynomials meets the postcondition everywhere. -/
theorem near_embed [Cert.Pre_table_in_unit.Facts] [Cert.Post_near_reference.Facts] (x : IVec ⟨2, ![4, 8192]⟩ 32)
    (T : STable.Idx → Ideal .f32) (hpre : Cert.Pre_table_in_unit.fn (F := Ideal) x T = fun _ => 1#1) :
    Cert.Post_near_reference.fn (F := Ideal) x T (embed (sinPoly (F := Ideal)) (cosPoly (F := Ideal)) T) = fun _ => 1#1 := by
  have hT : ∀ k, ∃ r : ℝ, T k = ((r : ℝ) : EReal) ∧ |r| ≤ 1 := fun k => real_of_le (T k) (congrFun hpre k)
  funext i
  rw [post_apply]
  unfold embed
  split
  next h =>
    obtain ⟨r, e, hr⟩ := hT (ValueIdx.ix2 (i 1) ⟨(i 2).val, h⟩)
    rw [e]
    exact sin_half r hr
  next h =>
    obtain ⟨r, e, hr⟩ := hT (ValueIdx.ix2 (succRow (i 1)) ⟨(i 2).val - 1024, by have h2 : (i 2).val < 2048 := (i 2).isLt; omega⟩)
    rw [e]
    exact cos_half r hr

end Cert.Rope

end
-- ==== Proof.Facts.lean ====
/- The shape relations the precondition and the postcondition state. -/
module

public import proofs.«01_k».proof.Defs

@[expose] public section

set_option maxRecDepth 65536

noncomputable section

open Idealize.ShloMosaic

namespace Cert.Rope

/-- The precondition's shapes fit. -/
theorem pre_facts : Cert.Pre_table_in_unit.Facts where
  bcast_S_S8192x1024 := by decide

/-- The postcondition's shapes fit. -/
theorem post_facts : Cert.Post_near_reference.Facts where
  slices_S8192x1024_S8191x1024_1_0 := by decide
  slices_S8192x1024_S1x1024_0_0 := by decide
  concatenates_S8191x1024_S1x1024_S8192x1024_d0 := by decide
  concatenates_S8192x1024_S8192x1024_S8192x2048_d1 := by decide
  bcast_S8192x2048_S4x8192x2048_1_2 := by decide
  bcast_S_S4x8192x2048 := by decide

end Cert.Rope

end
-- ==== Proof.Claims.lean ====
/- The claims, one theorem each. -/
module

public import proofs.«01_k».proof.Defs
public import proofs.«01_k».proof.Proof.Gen.Kernel.Frame
public import proofs.«01_k».proof.Proof.Gen.KernelIdeal.Frame
public import proofs.«01_k».proof.Proof.Gen.KernelPoly.Frame
public import proofs.«01_k».proof.Proof.Gen.KernelPolyIdeal.Frame
public import proofs.«01_k».proof.Proof.Gen.ReferenceIdeal.Run
public import proofs.«01_k».proof.Proof.KernelValue
public import proofs.«01_k».proof.Proof.RefValue
public import proofs.«01_k».proof.Proof.PolyValue
public import proofs.«01_k».proof.Proof.PolyNear
public import proofs.«01_k».proof.Proof.Facts
public import Idealize.ShloMosaic.Lib.Quiescent

@[expose] public section

noncomputable section

open Idealize.ShloMosaic Idealize.ShloMosaic.TcCoe Idealize.SL.Sem

namespace Cert.Rope

/-- The kernel, in 32-bit floats, runs to the end on every memory, leaves its arguments and its semaphores as they were. -/
theorem frame_kernel : Cert.quiescent_Kernel := fun m ρ _ => Cert.Kernel.Gen.frame m ρ

/-- So does the kernel over the reals, -/
theorem frame_ideal : Cert.quiescent_KernelIdeal := fun m ρ _ => Cert.KernelIdeal.Gen.frame m ρ

/-- and the reference over the reals: it is host operations only and has no semaphore, -/
theorem frame_reference : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.RopeValue.run (F := Ideal) m ρ)

/-- and the polynomial version, in 32-bit floats -/
theorem frame_poly : Cert.quiescent_KernelPoly := fun m ρ _ => Cert.KernelPoly.Gen.frame m ρ

/-- and over the reals, -/
theorem frame_poly_ideal : Cert.quiescent_KernelPolyIdeal := fun m ρ _ => Cert.KernelPolyIdeal.Gen.frame m ρ

/-- in particular where the table's entries lie in [-1, 1]. -/
theorem frame_poly_ideal_pre (h : Cert.Pre_table_in_unit.Facts) :
    Cert.quiescent_KernelPolyIdeal_pre_table_in_unit (hPre_table_in_unit := h) :=
  fun m ρ _ => Cert.KernelPolyIdeal.Gen.frame m ρ

/-- Over the reals, on arguments that agree, the kernel and the reference end with the same result array: each is the
    embedding of its table by the sine and the cosine. -/
theorem algebraic : Cert.algebraic_KernelIdeal_ReferenceIdeal := by
  intro m ρ m' ρ' _ hagree
  refine ⟨fun c => Cert.KernelIdeal.RopeValue.val m c, Cert.KernelIdeal.RopeValue.run (F := Ideal) m ρ, ?_⟩
  refine (θ_run Cert.ReferenceIdeal.defs _ _).mono (fun _ h c => ⟨(h c).1.trans ?_, (h c).2⟩)
    (Cert.ReferenceIdeal.RopeValue.run (F := Ideal) m' ρ')
  rw [(hagree c).2]
  exact embed_congr _ (fun _ => rfl) (fun _ => rfl)

/-- Over the reals, for a table with entries in [-1, 1], every element of the polynomial version's result is within 3e-6 of
    the reference's. -/
theorem near (hpre : Cert.Pre_table_in_unit.Facts) (hpost : Cert.Post_near_reference.Facts) :
    Cert.holds_KernelPolyIdeal_near_reference_pre_table_in_unit (hPre_table_in_unit := hpre) (hPost_near_reference := hpost) :=
  fun m ρ hP => (θ_run Cert.KernelPolyIdeal.defs _ _).mono (fun _ h c =>
      ⟨(h c).2.1, (h c).2.2, by rw [(h c).1]; exact near_embed _ _ (hP c)⟩)
    (Cert.KernelPolyIdeal.RopeValue.run (F := Ideal) m ρ)

end Cert.Rope

end
-- ==== Proof.lean ====
module

public import proofs.«01_k».proof.Defs
public import proofs.«01_k».proof.Proof.Claims

@[expose] public section

noncomputable section

namespace Cert.Proof

/-- Everything that is claimed: the frames of the kernel, of the reference and of the polynomial version, that nothing was
    replaced in either, that the kernel's result is the reference's over the reals, and how near the polynomial version's is. -/
theorem claim : Cert.Claim :=
  ⟨Cert.Kernel.Gen.facts, Cert.KernelIdeal.Gen.facts, Cert.ReferenceIdeal.Gen.facts, Cert.KernelPoly.Gen.facts,
    Cert.KernelPolyIdeal.Gen.facts, Cert.Rope.pre_facts, Cert.Rope.post_facts,
    Cert.Rope.frame_kernel, Cert.Rope.frame_ideal, Cert.Rope.frame_reference, Cert.Rope.frame_poly, Cert.Rope.frame_poly_ideal,
    Cert.Rope.frame_poly_ideal_pre Cert.Rope.pre_facts, trivial, Cert.Rope.algebraic, trivial,
    Cert.Rope.near Cert.Rope.pre_facts Cert.Rope.post_facts⟩

end Cert.Proof

end
